-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_products [hPre_finite_products : Cert.Pre_finite_products.Facts] (m : (ℓ : Loc Cert.KernelIdeal.nD Cert.KernelIdeal.τ Cert.KernelIdeal.sig) → Buf (Elt Ideal) ℓ) : Prop :=
  ∀ c : Dev Cert.KernelIdeal.nD,
    (Cert.Pre_finite_products.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_products [hPre_finite_products : Cert.Pre_finite_products.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_products.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_finite_products [hKernelIdeal : Cert.KernelIdeal.Facts] [hPre_finite_products : Cert.Pre_finite_products.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_products m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_finite_products [hReferenceIdeal : Cert.ReferenceIdeal.Facts] [hPre_finite_products : Cert.Pre_finite_products.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_products m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal_pre_finite_products [hKernelIdeal : Cert.KernelIdeal.Facts] [hReferenceIdeal : Cert.ReferenceIdeal.Facts] [hPre_finite_products : Cert.Pre_finite_products.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_products m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v4) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_products : Cert.Pre_finite_products.Facts),
    quiescent_Kernel (hKernel := hKernel)
    ∧ quiescent_KernelIdeal (hKernelIdeal := hKernelIdeal)
    ∧ quiescent_KernelIdeal_pre_finite_products (hKernelIdeal := hKernelIdeal) (hPre_finite_products := hPre_finite_products)
    ∧ quiescent_ReferenceIdeal (hReferenceIdeal := hReferenceIdeal)
    ∧ quiescent_ReferenceIdeal_pre_finite_products (hReferenceIdeal := hReferenceIdeal) (hPre_finite_products := hPre_finite_products)
    ∧ preserves_Kernel_KernelIdeal
    ∧ algebraic_KernelIdeal_ReferenceIdeal_pre_finite_products (hKernelIdeal := hKernelIdeal) (hReferenceIdeal := hReferenceIdeal) (hPre_finite_products := hPre_finite_products)
-- ==== Pre_finite_products.lean ====
abbrev S4x2048x1024 : Shape := ⟨3, ![4, 2048, 1024]⟩
abbrev S50257x1024 : Shape := ⟨2, ![50257, 1024]⟩
abbrev S50257 : Shape := ⟨1, ![50257]⟩
abbrev S_ : Shape := ⟨0, ![]⟩

class Facts : Prop where
  bcast_S_S4x2048x1024 : S_.BroadcastsInDim S4x2048x1024 (![] : Fin 0 → Fin S4x2048x1024.rank)
  reducesTo_S4x2048x1024_S_d0_1_2 : S4x2048x1024.ReducesTo [0, 1, 2] S_
  h_S_ : 0 < S_.numel
  bcast_S_S50257x1024 : S_.BroadcastsInDim S50257x1024 (![] : Fin 0 → Fin S50257x1024.rank)
  reducesTo_S50257x1024_S_d0_1 : S50257x1024.ReducesTo [0, 1] S_

variable [Facts]

def fn {F : FTy → Type} [FloatOps F] (main_arg0 : FVec F S4x2048x1024 .f32) (main_arg1 : FVec F S50257x1024 .f32) (main_arg2 : FVec F S50257 .f32) : IVec S_ 1 :=
  let main_v0 : FVec F S4x2048x1024 .f32 := Host.absf main_arg0
  let main_cst : FVec F S_ .f32 := constant S_ .f32 0x7F800000#32
  let main_v1 : FVec F S4x2048x1024 .f32 := broadcastInDim S4x2048x1024 ![] bcast_S_S4x2048x1024 main_cst
  let main_v2 : IVec S4x2048x1024 1 := cmpf .olt main_v0 main_v1
  let main_c : IVec S_ 1 := constantI S_ 1 1#1
  let main_v3 : IVec S_ 1 := (fun x v => Host.reduce IntOp.andi x v reducesTo_S4x2048x1024_S_d0_1_2 h_S_) main_v2 main_c
  let main_v4 : FVec F S50257x1024 .f32 := Host.absf main_arg1
  let main_cst_0 : FVec F S_ .f32 := constant S_ .f32 0x7F800000#32
  let main_v5 : FVec F S50257x1024 .f32 := broadcastInDim S50257x1024 ![] bcast_S_S50257x1024 main_cst_0
  let main_v6 : IVec S50257x1024 1 := cmpf .olt main_v4 main_v5
  let main_c_1 : IVec S_ 1 := constantI S_ 1 1#1
  let main_v7 : IVec S_ 1 := (fun x v => Host.reduce IntOp.andi x v reducesTo_S50257x1024_S_d0_1 h_S_) main_v6 main_c_1
  let main_v8 : IVec S_ 1 := andi main_v3 main_v7
  main_v8
-- ==== Kernel.lean ====
abbrev S4x2048x1024 : Shape := ⟨3, ![4, 2048, 1024]⟩
abbrev S50257x1024 : Shape := ⟨2, ![50257, 1024]⟩
abbrev S50257 : Shape := ⟨1, ![50257]⟩
abbrev S1x50257 : Shape := ⟨2, ![1, 50257]⟩
abbrev S4x50257 : Shape := ⟨2, ![4, 50257]⟩
abbrev S4x256x512 : Shape := ⟨3, ![4, 256, 512]⟩
abbrev S2048x1024 : Shape := ⟨2, ![2048, 1024]⟩
abbrev S1x2048 : Shape := ⟨2, ![1, 2048]⟩
abbrev S4x2048 : Shape := ⟨2, ![4, 2048]⟩
abbrev S4x1024 : Shape := ⟨2, ![4, 1024]⟩
abbrev S4x512 : Shape := ⟨2, ![4, 512]⟩
abbrev S2048x4 : Shape := ⟨2, ![2048, 4]⟩

abbrev nBuf : Space → Nat
  | .hbm => 5
  | .vmem => 11
  | .smem => 0
  | _ => 0

abbrev bufTy : (tb : Table) → Fin (tcTables nBuf tb) → BufTy
  | .hbm, ⟨0, _⟩ => ⟨S4x2048x1024, .f32⟩
  | .hbm, ⟨1, _⟩ => ⟨S50257x1024, .f32⟩
  | .hbm, ⟨2, _⟩ => ⟨S50257, .f32⟩
  | .hbm, ⟨3, _⟩ => ⟨S1x50257, .f32⟩
  | .hbm, ⟨4, _⟩ => ⟨S4x50257, .f32⟩
  | .local _ .vmem, ⟨0, _⟩ => ⟨S4x256x512, .f32⟩
  | .local _ .vmem, ⟨1, _⟩ => ⟨S4x256x512, .f32⟩
  | .local _ .vmem, ⟨2, _⟩ => ⟨S4x256x512, .f32⟩
  | .local _ .vmem, ⟨3, _⟩ => ⟨S4x256x512, .f32⟩
  | .local _ .vmem, ⟨4, _⟩ => ⟨S2048x1024, .f32⟩
  | .local _ .vmem, ⟨5, _⟩ => ⟨S2048x1024, .f32⟩
  | .local _ .vmem, ⟨6, _⟩ => ⟨S1x2048, .f32⟩
  | .local _ .vmem, ⟨7, _⟩ => ⟨S1x2048, .f32⟩
  | .local _ .vmem, ⟨8, _⟩ => ⟨S4x2048, .f32⟩
  | .local _ .vmem, ⟨9, _⟩ => ⟨S4x2048, .f32⟩
  | .local _ .vmem, ⟨10, _⟩ => ⟨S4x1024, .f32⟩
  | _, _ => ⟨S4x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨1, ![33], ![false]⟩

def k0_cond3 (i : grid0.Coords) : BitVec 1 :=
  let arg0 : BitVec 32 := BitVec.ofNat 32 (i 0).val
  let c8_i32_2 : BitVec 32 := 8#32
  let v6 : BitVec 1 := Scalar.cmpi .sge arg0 c8_i32_2
  let v7 : BitVec 32 := Scalar.extui v6
  let c0_i32_3 : BitVec 32 := 0#32
  let v8 : BitVec 1 := Scalar.cmpi .ne v7 c0_i32_3
  v8

def cc0_transform_0 (i : grid0.Coords) : Fin 3 → Nat :=
  let arg0 : BitVec 32 := BitVec.ofNat 32 (i 0).val
  let c7_i32 : BitVec 32 := 7#32
  let v0 : BitVec 32 := Scalar.minsi arg0 c7_i32
  let c0_i32 : BitVec 32 := 0#32
  let c0_i32_0 : BitVec 32 := 0#32
  let c0_i32_1 : BitVec 32 := 0#32
  ![c0_i32.toNat, v0.toNat, c0_i32_0.toNat]

def cc0_transform_1 (i : grid0.Coords) : Fin 3 → Nat :=
  let arg0 : BitVec 32 := BitVec.ofNat 32 (i 0).val
  let c7_i32 : BitVec 32 := 7#32
  let v0 : BitVec 32 := Scalar.minsi arg0 c7_i32
  let c0_i32 : BitVec 32 := 0#32
  let c1_i32 : BitVec 32 := 1#32
  let c0_i32_0 : BitVec 32 := 0#32
  ![c0_i32.toNat, v0.toNat, c1_i32.toNat]

def cc0_transform_2 (i : grid0.Coords) : Fin 2 → Nat :=
  let arg0 : BitVec 32 := BitVec.ofNat 32 (i 0).val
  let c8_i32 : BitVec 32 := 8#32
  let v0 : BitVec 32 := Scalar.subi arg0 c8_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_3 (i : grid0.Coords) : Fin 2 → Nat :=
  let arg0 : BitVec 32 := BitVec.ofNat 32 (i 0).val
  let c8_i32 : BitVec 32 := 8#32
  let v0 : BitVec 32 := Scalar.subi arg0 c8_i32
  let c0_i32 : BitVec 32 := 0#32
  let v1 : BitVec 32 := Scalar.maxsi v0 c0_i32
  let c0_i32_0 : BitVec 32 := 0#32
  let c0_i32_1 : BitVec 32 := 0#32
  ![c0_i32_0.toNat, v1.toNat]

def cc0_transform_4 (i : grid0.Coords) : Fin 2 → Nat :=
  let arg0 : BitVec 32 := BitVec.ofNat 32 (i 0).val
  let c8_i32 : BitVec 32 := 8#32
  let v0 : BitVec 32 := Scalar.subi arg0 c8_i32
  let c0_i32 : BitVec 32 := 0#32
  let v1 : BitVec 32 := Scalar.maxsi v0 c0_i32
  let c0_i32_0 : BitVec 32 := 0#32
  let c0_i32_1 : BitVec 32 := 0#32
  ![c0_i32_0.toNat, v1.toNat]

abbrev stage0_0 : Fin 2 → Memref sig .tc .vmem S4x256x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4x256x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2048x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S4x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== ReferenceIdeal.lean ====
abbrev S4x2048x1024 : Shape := ⟨3, ![4, 2048, 1024]⟩
abbrev S50257x1024 : Shape := ⟨2, ![50257, 1024]⟩
abbrev S50257 : Shape := ⟨1, ![50257]⟩
abbrev S4x2048x50257 : Shape := ⟨3, ![4, 2048, 50257]⟩
abbrev S1x1x50257 : Shape := ⟨3, ![1, 1, 50257]⟩
abbrev S_ : Shape := ⟨0, ![]⟩
abbrev S4x50257 : Shape := ⟨2, ![4, 50257]⟩

abbrev nBuf : Space → Nat
  | .hbm => 9
  | .vmem => 0
  | .smem => 0
  | _ => 0

abbrev bufTy : (tb : Table) → Fin (tcTables nBuf tb) → BufTy
  | .hbm, ⟨0, _⟩ => ⟨S4x2048x1024, .f32⟩
  | .hbm, ⟨1, _⟩ => ⟨S50257x1024, .f32⟩
  | .hbm, ⟨2, _⟩ => ⟨S50257, .f32⟩
  | .hbm, ⟨3, _⟩ => ⟨S4x2048x50257, .f32⟩
  | .hbm, ⟨4, _⟩ => ⟨S1x1x50257, .f32⟩
  | .hbm, ⟨5, _⟩ => ⟨S4x2048x50257, .f32⟩
  | .hbm, ⟨6, _⟩ => ⟨S4x2048x50257, .f32⟩
  | .hbm, ⟨7, _⟩ => ⟨S_, .f32⟩
  | .hbm, ⟨8, _⟩ => ⟨S4x50257, .f32⟩
  | _, _ => ⟨S4x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst : Ref sig .tc := ⟨.hbm, 7, rfl⟩
abbrev main_v4 : Ref sig .tc := ⟨.hbm, 8, rfl⟩

abbrev nD : Nat := 1
abbrev τ : Topo := Topo.v7x

variable {F : FTy → Type} [FloatOps F]
-- ==== Proof.KernelFrame.lean ====
/-
  The memory safety of the kernel as it is compiled, at any value instance: every run of it terminates with the argument
  arrays as they were at launch and every semaphore counter at zero. What the body leaves in its buffers is not named
  here (every window is forgotten): the triple only says that the body runs, and hands each buffer back at some contents.
-/
module

public import proofs.«01_k».proof.Proof.Gen.Kernel.Frame
public import proofs.«01_k».proof.Proof.Gen.Kernel.Skeleton
public import Idealize.ShloMosaic.Lib.Pipeline.Frame
public import Idealize.ShloMosaic.Lib.Tactic

@[expose] public section

noncomputable section

namespace Cert.Kernel.Safe

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- A memref held whole on core `c` at some contents. -/
abbrev held (c : Dev nD) {sp : Space} {S : Shape} {e : EltTy} (M : Memref sig .tc sp S e) : sProp 𝕄 :=
  iprop(∃ d, owns (c : Thread nD τ) M fullShare d)

/-- The accumulator in scratch memory. -/
abbrev scratch : Memref sig .tc .vmem S4x1024 .f32 := Memref.whole cc0_scratch0

/-- The kernel body runs at any grid point, on any five buffers and the scratch held at any contents, and hands the six
    of them back at some contents. -/
theorem body_runs (c : Dev nD) (i : grid0.Coords)
    (a1 : Memref sig .tc .vmem S4x256x512 .f32) (h1 : a1.IsWhole) (a2 : Memref sig .tc .vmem S4x256x512 .f32) (h2 : a2.IsWhole)
    (a3 : Memref sig .tc .vmem S2048x1024 .f32) (h3 : a3.IsWhole) (a4 : Memref sig .tc .vmem S1x2048 .f32) (h4 : a4.IsWhole)
    (a5 : Memref sig .tc .vmem S4x2048 .f32) (h5 : a5.IsWhole) (K : PUnit → sProp 𝕄) :
    iprop(held c a1 ∗ held c a2 ∗ held c a3 ∗ held c a4 ∗ held c a5 ∗ held c scratch
        ∗ (iprop(held c a1 ∗ held c a2 ∗ held c a3 ∗ held c a4 ∗ held c a5 ∗ held c scratch) -∗ K ⟨⟩))
      ⊢ wp frame (wpE (defs₀ (F := F)) Variants.none c none) Set.univ
          (cc0__body i a1 h1 a2 h2 a3 h3 a4 h4 a5 h5 scratch (Memref.isWhole_whole _)) K := by
  simp only [cc0__body_eq_skeleton]; unfold cc0__body_skel
  unfold held owns
  iintro ⟨⟨%d1, %f1, -, H1⟩, ⟨%d2, %f2, -, H2⟩, ⟨%d3, %f3, -, H3⟩, ⟨%d4, %f4, -, H4⟩, ⟨%d5, %f5, -, H5⟩, ⟨%d6, %f6, -, H6⟩, Hk⟩
  sl_exec
  sl_step
  iapply Hk
  isplitl [H1]
  · iexists _, _; isplitr; swap; · iexact H1
    ipureintro; rfl
  isplitl [H2]
  · iexists _, _; isplitr; swap; · iexact H2
    ipureintro; rfl
  isplitl [H3]
  · iexists _, _; isplitr; swap; · iexact H3
    ipureintro; rfl
  isplitl [H4]
  · iexists _, _; isplitr; swap; · iexact H4
    ipureintro; rfl
  isplitl [H5]
  · iexists _, _; isplitr; swap; · iexact H5
    ipureintro; rfl
  iexists _, _; isplitr; swap; · iexact H6
  ipureintro; rfl

/-- Every window is forgotten: the frame names no buffer's contents. -/
def forgotten : Fin 5 → Bool := fun _ => true

/-- The proof data on core `c`: the arrays as the region finds them, nothing named of what the body leaves, the scratch at
    any contents between points, each input's share what its array's windows allow. -/
def dats (_ : Fin 1) (c : Dev nD) : Dat τ (Elt F) Unit ℕ (UR sig nD τ) ℕ cfg0 c where
  A w := V m c (Pipeline.arrRef spec0 w)
  after w t := Pipeline.Dat.unnamed (cfg := cfg0) w t
  Φ _ := Pipeline.ΦA spec0 c
  q := Pipeline.shareOf spec0
  owed _ := 0

/-- The proof data's arrays are the contents the region is entered with. -/
theorem A_eq (c : Dev nD) (w : Fin cfg0.W) : (dats m 0 c).A w = V m c (Pipeline.arrRef spec0 w) := by dsimp only [dats]

/-- The invariant between points: the scratch at some contents and the generator register at some state. -/
theorem inv_eq (c : Dev nD) :
    (Pipeline.ΦA spec0 c : sProp 𝕄) = iprop(held c scratch ∗ ∃ r, prngReg c r) := by
  unfold Pipeline.ΦA held
  rw [scopedRest0_eq]; simp only [owns_whole]; rfl

/-- What the body is handed at point `t` and hands back: the invariant, what is owed, and the five buffers. -/
def around (c : Dev nD) (t : Fin cfg0.N) (P : sProp 𝕄) : sProp 𝕄 :=
  iprop(Pipeline.ΦA spec0 c ∗ P ∗ held c (st0_0 t) ∗ held c (st0_1 t) ∗ held c (st0_2 t) ∗ held c (st0_3 t) ∗ held c (st0_4 t))

/-- The body at point `t`, on the buffers the pipeline hands it. -/
theorem point_runs (c : Dev nD) (t : Fin cfg0.N) (P : sProp 𝕄) :
    around c t P ⊢ wp frame (wpE (defs₀ (F := F)) Variants.none c none) Set.univ (bodyAt0 t) (fun _ => around c t P) := by
  unfold around bodyAt0
  rw [inv_eq]
  iintro ⟨⟨H6, Hg⟩, HP, H1, H2, H3, H4, H5⟩
  iapply (body_runs c (grid0.coords t) (st0_0 t) _ (st0_1 t) _ (st0_2 t) _ (st0_3 t) _ (st0_4 t) _ _)
  isplitl [H1]; · iexact H1
  isplitl [H2]; · iexact H2
  isplitl [H3]; · iexact H3
  isplitl [H4]; · iexact H4
  isplitl [H5]; · iexact H5
  isplitl [H6]; · iexact H6
  iintro ⟨H1, H2, H3, H4, H5, H6⟩
  isplitl [H6 Hg]
  · isplitl [H6]; · iexact H6
    iexact Hg
  isplitl [HP]; · iexact HP
  isplitl [H1]; · iexact H1
  isplitl [H2]; · iexact H2
  isplitl [H3]; · iexact H3
  isplitl [H4]; · iexact H4
  iexact H5

/-- The pipeline calls the kernel body at point `t` on that point's buffers. -/
theorem defs₀_row (t : Fin cfg0.N) : defs₀ (F := F) .tc cfg0.body (cfg0.bodyArgs t (cfg0.slots t)) = bodyAt0 t := by
  unfold defs₀; rw [Defs.onTc_tc]

/-- The library's obligation of the body, every window forgotten. -/
theorem body_obligation (c : Dev nD) :
    BodyObligation (dats (F := F) m 0 c) (defs₀ (F := F)) Variants.none () Set.univ forgotten := fun t => by
  rw [bigSep_W0, bigSep_W0, defs₀_row]
  exact triple_restated (point_runs c t ((dats m 0 c).owesAt () t.castSucc)) rfl .rfl fun _ => .rfl

set_option backward.isDefEq.respectTransparency.types false in
/-- From any memory with zero counters every run of the kernel terminates, each input array and every array the pipeline
    does not write as the region found it, and every semaphore counter at zero. -/
theorem run_main :
    θ_run defs (onTc (τ := τ) (main (F := F))) (s₀ m ρ)
      (fun r => Pipeline.RDat.FramePost (cfgs 0) (fun c => (dats m 0 c).toRForget forgotten) (V m) r ∧ r.2.sem = fun _ => 0) :=
  Pipeline.θ_run_frame_forget_shared (Q' := _) cfgs (dats m) (0 : Fin 1) launch₀0 defs₀ Variants.none forgotten m ρ main
    (hbody := fun c => (body_obligation m c).loose) (hq := fun _ _ _ => rfl) (howed := fun _ _ => rfl)
    (V := V m) (hmain := hmain m Variants.none) (hA := A_eq m) (hΦ := fun _ _ => rfl)

/-- THE FRAME: from any memory with zero counters every run of the kernel terminates with the three arguments as they were
    at launch and every semaphore counter at zero. -/
theorem safe :
    θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) ∧ r.2.sem = fun _ => 0) :=
  (θ_run defs _ _).mono (fun _ h => ⟨fun c =>
    ⟨(h.1.arr_in c 1 rfl).trans ((A_eq m c 1).trans (V_main_arg0 m c)),
      (h.1.arr_in c 2 rfl).trans ((A_eq m c 2).trans (V_main_arg1 m c)),
      ((h.1 c).2 main_arg2 (Pipeline.mem_restRefs_of main_arg2 (by decide) (by decide))).trans (V_main_arg2 m c)⟩, h.2⟩)
    (run_main m ρ)

end Cert.Kernel.Safe

end
-- ==== Proof.Body.lean ====
/-
  What the body of the idealised kernel does at a grid point, over any value instance: at the first point it clears the
  accumulator, at the first eight it adds a chunk of the input to it, and from the ninth on it stores one block of the
  result, computed from the accumulator.
-/
module

public import proofs.«01_k».proof.Proof.Gen.KernelIdeal.Frame
public import proofs.«01_k».proof.Proof.Gen.KernelIdeal.Skeleton
public import Idealize.ShloMosaic.Lib.Pipeline.Frame
public import Idealize.ShloMosaic.Lib.Tactic
public import Idealize.ShloMosaic.Lib.VecWindow

@[expose] public section

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation)

variable {F : FTy → Type} [FloatOps F]

local notation "𝕄" => MT nD τ sig Unit (Elt F) ℕ (UR sig nD τ) ℕ

/-- The accumulator in scratch memory. -/
abbrev scratch : Memref sig .tc .vmem S4x1024 .f32 := Memref.whole cc0_scratch0

/-- The printed condition for clearing the accumulator. -/
abbrev clears (i : grid0.Coords) : Prop :=
  Scalar.cmpi .ne (Scalar.extui (Scalar.cmpi .eq (BitVec.ofNat 32 (i 0).val) 0#32) : BitVec 32) 0#32 = 1#1
/-- The printed condition for adding a chunk to the accumulator. -/
abbrev accumulates (i : grid0.Coords) : Prop :=
  Scalar.cmpi .ne (Scalar.extui (Scalar.cmpi .slt (BitVec.ofNat 32 (i 0).val) 8#32) : BitVec 32) 0#32 = 1#1
/-- The printed condition for storing a block of the result. -/
abbrev emits (i : grid0.Coords) : Prop := k0_cond3 i = 1#1

/-- The accumulator is cleared at point 0 alone. -/
theorem clears_iff (i : grid0.Coords) : clears i ↔ (i 0).val = 0 := by
  have h : (i 0).val < 33 := (i 0).isLt
  unfold clears
  generalize (i 0).val = n at h
  revert n; decide
/-- A chunk is added at points 0 to 7. -/
theorem accumulates_iff (i : grid0.Coords) : accumulates i ↔ (i 0).val < 8 := by
  have h : (i 0).val < 33 := (i 0).isLt
  unfold accumulates
  generalize (i 0).val = n at h
  revert n; decide
/-- A block of the result is stored at points 8 to 32. -/
theorem emits_iff (i : grid0.Coords) : emits i ↔ 8 ≤ (i 0).val := by
  have h : (i 0).val < 33 := (i 0).isLt
  unfold emits k0_cond3
  generalize (i 0).val = n at h
  revert n; decide

/-- The accumulator `S` with a chunk of the input added: the left half of the columns takes the sums over the rows of `X1`,
    the right half those of `X2`. -/
def addChunk (S : S4x1024.Idx → F .f32) (X1 X2 : S4x256x512.Idx → F .f32) : S4x1024.Idx → F .f32 :=
  VecWindow.put (VecWindow.put S ![0, 0] S4x512.size (k0_pay2 (VecWindow.window S ![0, 0] S4x512.size inb_S4x1024_S4x512_0_0) X1))
    ![0, 512] S4x512.size (k0_pay3 (VecWindow.window S ![0, 512] S4x512.size inb_S4x1024_S4x512_0_512) X2)

/-- Reading the accumulator after the two halves' stores over contents that read `S`: `addChunk S`, when the halves stored
    were computed from `S`. -/
theorem read_addChunk (v : View sig .tc .vmem S4x1024 .f32) (f : v.ty.Contents (Elt F)) (L : List (View.Piece (Elt F) S4x1024 .f32))
    (S : S4x1024.Idx → F .f32) (X1 X2 : S4x256x512.Idx → F .f32) (A B : Vec F S4x512 .f32)
    (hS : v.read (Elt F) (v.writes (Elt F) f L) = S)
    (hA : A = VecWindow.window S ![0, 0] S4x512.size inb_S4x1024_S4x512_0_0)
    (hB : B = VecWindow.window S ![0, 512] S4x512.size inb_S4x1024_S4x512_0_512) :
    v.read (Elt F) (v.writes (Elt F) f
        (⟨Rect.unit ![0, 512] S4x512.size inb_S4x1024_S4x512_0_512, k0_pay3 B X2⟩
          :: ⟨Rect.unit ![0, 0] S4x512.size inb_S4x1024_S4x512_0_0, k0_pay2 A X1⟩ :: L))
      = addChunk S X1 X2 := by
  subst hA hB
  rw [View.read_writes_cons_put v f _ _ _ rfl, View.read_writes_cons_put v f _ _ _ rfl, hS]
  rfl

/-- The body at points 1 to 7: a chunk is added to the accumulator; nothing else is written. -/
theorem run_chunk (c : Dev nD) (i : grid0.Coords) (hi0 : 0 < (i 0).val) (hi : (i 0).val < 8)
    (a1 : Memref sig .tc .vmem S4x256x512 .f32) (h1 : a1.IsWhole) (a2 : Memref sig .tc .vmem S4x256x512 .f32) (h2 : a2.IsWhole)
    (a3 : Memref sig .tc .vmem S2048x1024 .f32) (h3 : a3.IsWhole) (a4 : Memref sig .tc .vmem S1x2048 .f32) (h4 : a4.IsWhole)
    (a5 : Memref sig .tc .vmem S4x2048 .f32) (h5 : a5.IsWhole)
    (X1 X2 : S4x256x512.Idx → F .f32) (S : S4x1024.Idx → F .f32) (K : PUnit → sProp 𝕄) :
    iprop(owns (c : Thread nD τ) a1 fullShare X1 ∗ owns (c : Thread nD τ) a2 fullShare X2 ∗ owns (c : Thread nD τ) scratch fullShare S
        ∗ (iprop(owns (c : Thread nD τ) a1 fullShare X1 ∗ owns (c : Thread nD τ) a2 fullShare X2
              ∗ owns (c : Thread nD τ) scratch fullShare (addChunk S X1 X2)) -∗ K ⟨⟩))
      ⊢ wp frame (wpE (defs₀ (F := F)) Variants.none c none) Set.univ
          (cc0__body i a1 h1 a2 h2 a3 h3 a4 h4 a5 h5 scratch (Memref.isWhole_whole _)) K := by
  have n1 : ¬ clears i := fun h => by have := (clears_iff i).mp h; omega
  have n2 : accumulates i := (accumulates_iff i).mpr hi
  have n3 : ¬ emits i := fun h => by have := (emits_iff i).mp h; omega
  simp only [cc0__body_eq_skeleton]; unfold cc0__body_skel
  unfold owns
  iintro ⟨⟨%f1, %e1, H1⟩, ⟨%f2, %e2, H2⟩, ⟨%f6, %e6, H6⟩, Hk⟩
  sl_exec
  sl_step
  iapply Hk
  isplitl [H1]
  · iexists f1; isplitr; · ipureintro; exact e1
    iexact H1
  isplitl [H2]
  · iexists f2; isplitr; · ipureintro; exact e2
    iexact H2
  iexists _; isplitr; swap; · iexact H6
  ipureintro
  unfold run_chunk.sl.v16
  rw [View.readAt_full, View.readAt_full, e1, e2]
  exact read_addChunk _ f6 [] S X1 X2 _ _ e6 (by subst e6; rfl) (by subst e6; rfl)

/-- The body at point 0: the accumulator is cleared, then a chunk is added to it. -/
theorem run_first (c : Dev nD) (i : grid0.Coords) (hi : (i 0).val = 0)
    (a1 : Memref sig .tc .vmem S4x256x512 .f32) (h1 : a1.IsWhole) (a2 : Memref sig .tc .vmem S4x256x512 .f32) (h2 : a2.IsWhole)
    (a3 : Memref sig .tc .vmem S2048x1024 .f32) (h3 : a3.IsWhole) (a4 : Memref sig .tc .vmem S1x2048 .f32) (h4 : a4.IsWhole)
    (a5 : Memref sig .tc .vmem S4x2048 .f32) (h5 : a5.IsWhole)
    (X1 X2 : S4x256x512.Idx → F .f32) (S : S4x1024.Idx → F .f32) (K : PUnit → sProp 𝕄) :
    iprop(owns (c : Thread nD τ) a1 fullShare X1 ∗ owns (c : Thread nD τ) a2 fullShare X2 ∗ owns (c : Thread nD τ) scratch fullShare S
        ∗ (iprop(owns (c : Thread nD τ) a1 fullShare X1 ∗ owns (c : Thread nD τ) a2 fullShare X2
              ∗ owns (c : Thread nD τ) scratch fullShare (addChunk k0_pay1 X1 X2)) -∗ K ⟨⟩))
      ⊢ wp frame (wpE (defs₀ (F := F)) Variants.none c none) Set.univ
          (cc0__body i a1 h1 a2 h2 a3 h3 a4 h4 a5 h5 scratch (Memref.isWhole_whole _)) K := by
  have n1 : clears i := (clears_iff i).mpr hi
  have n2 : accumulates i := (accumulates_iff i).mpr (by omega)
  have n3 : ¬ emits i := fun h => by have := (emits_iff i).mp h; omega
  simp only [cc0__body_eq_skeleton]; unfold cc0__body_skel
  unfold owns
  iintro ⟨⟨%f1, %e1, H1⟩, ⟨%f2, %e2, H2⟩, ⟨%f6, %e6, H6⟩, Hk⟩
  sl_exec
  sl_step
  iapply Hk
  isplitl [H1]
  · iexists f1; isplitr; · ipureintro; exact e1
    iexact H1
  isplitl [H2]
  · iexists f2; isplitr; · ipureintro; exact e2
    iexact H2
  iexists _; isplitr; swap; · iexact H6
  ipureintro
  unfold run_first.sl.v16 run_first.sl.H6_2 run_first.sl.v9 run_first.sl.H6_1
  rw [View.readAt_full, View.readAt_full, e1, e2]
  exact read_addChunk _ f6 _ k0_pay1 X1 X2 _ _ (View.read_writes_full _ f6 _ _ _)
    ((View.readAt_unit _ _ _ rfl inb_S4x1024_S4x512_0_0).trans (by rw [View.read_writes_full]))
    ((View.readAt_unit _ _ _ rfl inb_S4x1024_S4x512_0_512).trans (by
      rw [View.read_writes_cons_put _ _ _ _ _ rfl, View.read_writes_full]
      exact VecWindow.window_put_of_disjoint _ _ _ _ _ _ _ (1 : Fin 2) (.inr (by decide))))

/-- The body at points 8 to 32: a block of the result is stored, computed from the accumulator; nothing else is written. -/
theorem run_block (c : Dev nD) (i : grid0.Coords) (hi : 8 ≤ (i 0).val)
    (a1 : Memref sig .tc .vmem S4x256x512 .f32) (h1 : a1.IsWhole) (a2 : Memref sig .tc .vmem S4x256x512 .f32) (h2 : a2.IsWhole)
    (a3 : Memref sig .tc .vmem S2048x1024 .f32) (h3 : a3.IsWhole) (a4 : Memref sig .tc .vmem S1x2048 .f32) (h4 : a4.IsWhole)
    (a5 : Memref sig .tc .vmem S4x2048 .f32) (h5 : a5.IsWhole)
    (X3 : S2048x1024.Idx → F .f32) (X4 : S1x2048.Idx → F .f32) (X5 : S4x2048.Idx → F .f32) (S : S4x1024.Idx → F .f32)
    (K : PUnit → sProp 𝕄) :
    iprop(owns (c : Thread nD τ) a3 fullShare X3 ∗ owns (c : Thread nD τ) a4 fullShare X4 ∗ owns (c : Thread nD τ) a5 fullShare X5
        ∗ owns (c : Thread nD τ) scratch fullShare S
        ∗ (iprop(owns (c : Thread nD τ) a3 fullShare X3 ∗ owns (c : Thread nD τ) a4 fullShare X4
              ∗ owns (c : Thread nD τ) a5 fullShare (k0_pay4 X3 S X4) ∗ owns (c : Thread nD τ) scratch fullShare S) -∗ K ⟨⟩))
      ⊢ wp frame (wpE (defs₀ (F := F)) Variants.none c none) Set.univ
          (cc0__body i a1 h1 a2 h2 a3 h3 a4 h4 a5 h5 scratch (Memref.isWhole_whole _)) K := by
  have n1 : ¬ clears i := fun h => by have := (clears_iff i).mp h; omega
  have n2 : ¬ accumulates i := fun h => by have := (accumulates_iff i).mp h; omega
  have n3 : emits i := (emits_iff i).mpr hi
  simp only [cc0__body_eq_skeleton]; unfold cc0__body_skel
  unfold owns
  iintro ⟨⟨%f3, %e3, H3⟩, ⟨%f4, %e4, H4⟩, ⟨%f5, %e5, H5⟩, ⟨%f6, %e6, H6⟩, Hk⟩
  sl_exec
  sl_step
  iapply Hk
  isplitl [H3]
  · iexists f3; isplitr; · ipureintro; exact e3
    iexact H3
  isplitl [H4]
  · iexists f4; isplitr; · ipureintro; exact e4
    iexact H4
  isplitl [H5]
  · iexists _; isplitr; swap; · iexact H5
    ipureintro
    refine (View.read_writes_full _ f5 _ _ _).trans ?_
    rw [View.readAt_full, View.readAt_full, View.readAt_full, e3, e4, e6]
  iexists f6; isplitr; · ipureintro; exact e6
  iexact H6

end Cert.KernelIdeal.Run

end
-- ==== Proof.Payload.lean ====
/-
  The kernel's vector computations over exact real arithmetic, element by element: the block of the result is a product
  with the accumulator plus 2048 times the bias, and a chunk adds its column sums to the accumulator.
-/
module

public import proofs.«01_k».proof.Proof.Body
public import Idealize.ShloMosaic.Lib.Pointwise
public import Idealize.ShloMosaic.Lib.Pipeline.ValueKit

@[expose] public section

set_option maxRecDepth 16384

noncomputable section

namespace Cert.KernelIdeal.Run

open Cert.KernelIdeal Cert.KernelIdeal.Gen
open Idealize.ShloMosaic

/-- The number 2048, as the kernel's constant reads over the extended reals. -/
theorem count_word : Ideal.ofBits .f32 0x45000000#32 = (2048 : EReal) := by
  simp [Ideal.ofBits, Ideal.ieee, -EReal.coe_mul]
  norm_num
  rfl

/-- A block of the result at row `b` and column `v`: the inner product of row `v` of the weights with row `b` of the
    accumulator, plus 2048 times the bias at `v`. -/
theorem block_apply (X : Vec Ideal S2048x1024 .f32) (S : Vec Ideal S4x1024 .f32) (Y : Vec Ideal S1x2048 .f32) (y : S4x2048.Idx) :
    (k0_pay4 X S Y y : EReal) = ∑ k : Fin 1024, (X (ix2 (y 1) k) : EReal) * S (ix2 (y 0) k) + 2048 * (Y (ix2 0 (y 1)) : EReal) := by
  pointwise [k0_pay4]
  rw [count_word]

/-- The cleared accumulator is zero. -/
theorem cleared_apply (y : S4x1024.Idx) : (k0_pay1 (F := Ideal) y : EReal) = 0 := by
  pointwise [k0_pay1]

/-- The left half of the accumulator with a chunk added. -/
theorem left_apply (A : Vec Ideal S4x512 .f32) (X : Vec Ideal S4x256x512 .f32) (y : S4x512.Idx) :
    (k0_pay2 A X y : EReal) = A y + ∑ r : Fin 256, (X (ix3 (y 0) r (y 1)) : EReal) := by
  pointwise [k0_pay2]

/-- The right half of the accumulator with a chunk added. -/
theorem right_apply (A : Vec Ideal S4x512 .f32) (X : Vec Ideal S4x256x512 .f32) (y : S4x512.Idx) :
    (k0_pay3 A X y : EReal) = A y + ∑ r : Fin 256, (X (ix3 (y 0) r (y 1)) : EReal) := by
  pointwise [k0_pay3]

end Cert.KernelIdeal.Run

end
-- ==== Proof.Run.lean ====
/-
  The run of the idealised kernel: what every staging buffer and the accumulator hold at each grid point, and the result
  array the run leaves.
-/
module

public import proofs.«01_k».proof.Proof.Payload

@[expose] public section

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligationLoose)

local notation "𝕄" => MT nD τ sig Unit (Elt Ideal) ℕ (UR sig nD τ) ℕ

variable (m : (ℓ : Loc nD τ sig) → Buf (Elt Ideal) ℓ) (ρ : Dev nD → PrngReg)

/-! ## The schedule -/

/-- The grid is one axis: point `t`'s coordinate is `t`. -/
theorem coord : ∀ t : Fin cfg0.N, (grid0.coords t 0).val = t.val :=
  (by decide +kernel : ∀ t : Fin grid0.N, _)

/-- The result's window writes nothing back before point 8 and its block at every point from there on. -/
theorem flush_4 : ∀ t : Fin cfg0.N, (cfg0.win 4).flush t = decide (8 ≤ t.val) :=
  (by decide +kernel : ∀ t : Fin grid0.N, _)

/-- The body leaves the result's buffer alone before point 8 and stores into it from there on. -/
theorem idle_4 : ∀ t : Fin cfg0.N, cfg0.idle 4 (grid0.coords t) = decide (t.val < 8) :=
  (by decide +kernel : ∀ t : Fin grid0.N, _)

/-- What the transfers of the weights', the bias's and the result's windows move at a point: equally many rows of the
    weights, columns of the bias and columns of the result, and all of the other axes. -/
theorem moved_sizes : ∀ t : Fin cfg0.N,
    win0_2.xsize (grid0.coords t) 0 = win0_4.xsize (grid0.coords t) 1 ∧ win0_2.xsize (grid0.coords t) 1 = 1024
    ∧ win0_3.xsize (grid0.coords t) 0 = 1 ∧ win0_3.xsize (grid0.coords t) 1 = win0_4.xsize (grid0.coords t) 1 :=
  (by decide +kernel : ∀ t : Fin grid0.N, _)

/-! ## What the buffers hold -/

/-- The input's blocks at a point: rows `256 t` to `256 t + 255` of the sequence, left and right half of the columns. -/
def xleft (c : Dev nD) (t : Fin cfg0.N) : S4x256x512.Idx → Ideal .f32 := iblk m c 0 t
def xright (c : Dev nD) (t : Fin cfg0.N) : S4x256x512.Idx → Ideal .f32 := iblk m c 1 t

/-- The weights' and the bias's buffers at a point, `d` where the block overhangs the array. -/
def wblk (c : Dev nD) (t : Fin cfg0.N) (d : S2048x1024.Idx → Ideal .f32) : S2048x1024.Idx → Ideal .f32 :=
  win0_2.fill (grid0.coords t) d (iblk m c 2 t)
def bblk (c : Dev nD) (t : Fin cfg0.N) (d : S1x2048.Idx → Ideal .f32) : S1x2048.Idx → Ideal .f32 :=
  win0_3.fill (grid0.coords t) d (iblk m c 3 t)

/-- The accumulator before point `n`: zero, and from then on the chunks of the points below `n`, of which the first eight
    have one. -/
def acc (c : Dev nD) : ℕ → S4x1024.Idx → Ideal .f32
  | 0 => k0_pay1
  | n + 1 => if h : n < 8 then addChunk (acc c n) (xleft m c ⟨n, by have : cfg0.N = 33 := N_0; omega⟩) (xright m c ⟨n, by have : cfg0.N = 33 := N_0; omega⟩)
      else acc c n

/-- The block of the result stored at a point from 8 on (at the others the definition is not used). -/
def oblk (c : Dev nD) (t : Fin cfg0.N) : S4x2048.Idx → Ideal .f32 :=
  k0_pay4 (wblk m c t fun _ => (0 : EReal)) (acc m c 8) (bblk m c t fun _ => (0 : EReal))

/-- From point 8 on the accumulator does not change. -/
theorem acc_of_le (c : Dev nD) (n : ℕ) (h : 8 ≤ n) : acc m c n = acc m c 8 := by
  induction n, h using Nat.le_induction with
  | base => rfl
  | succ n hn ih => rw [acc, dif_neg (by omega), ih]

/-- Each of the first eight points adds its chunk. -/
theorem acc_chunk (c : Dev nD) (t : Fin cfg0.N) (h : t.val < 8) :
    acc m c (t.val + 1) = addChunk (acc m c t.val) (xleft m c t) (xright m c t) := by
  rw [acc, dif_pos h]

/-- The part of a result block inside the array does not depend on what the weights' and the bias's buffers hold where
    their blocks overhang theirs. -/
theorem cut_block (c : Dev nD) (t : Fin cfg0.N) (S : S4x1024.Idx → Ideal .f32) (d2 d2' d3 d3') :
    win0_4.cut (grid0.coords t) (k0_pay4 (F := Ideal) (wblk m c t d2) S (bblk m c t d3))
      = win0_4.cut (grid0.coords t) (k0_pay4 (F := Ideal) (wblk m c t d2') S (bblk m c t d3')) := by
  obtain ⟨h20, h21, h30, h31⟩ := moved_sizes t
  funext j
  have hj : (j 1).val < win0_4.xsize (grid0.coords t) 1 := (j 1).isLt
  have hw : ∀ k : Fin 1024, wblk m c t d2 (ix2 (win0_4.xinj (grid0.coords t) j 1) k)
      = wblk m c t d2' (ix2 (win0_4.xinj (grid0.coords t) j 1) k) := fun k => by
    have hm : win0_2.moved (grid0.coords t) (ix2 (win0_4.xinj (grid0.coords t) j 1) k) = true :=
      (win0_2.moved_iff _ _).mpr fun a => by
        fin_cases a
        · exact lt_of_lt_of_eq hj h20.symm
        · exact lt_of_lt_of_eq k.isLt h21.symm
    unfold wblk Window.fill; rw [dif_pos hm, dif_pos hm]
  have hb : bblk m c t d3 (ix2 0 (win0_4.xinj (grid0.coords t) j 1)) = bblk m c t d3' (ix2 0 (win0_4.xinj (grid0.coords t) j 1)) := by
    have hm : win0_3.moved (grid0.coords t) (ix2 0 (win0_4.xinj (grid0.coords t) j 1)) = true :=
      (win0_3.moved_iff _ _).mpr fun a => by
        fin_cases a
        · exact lt_of_lt_of_eq Nat.one_pos h30.symm
        · exact lt_of_lt_of_eq hj h31.symm
    unfold bblk Window.fill; rw [dif_pos hm, dif_pos hm]
  refine (block_apply _ _ _ _).trans (Eq.trans ?_ (block_apply _ _ _ _).symm)
  rw [hb]
  exact congrArg (· + _) (Finset.sum_congr rfl fun k _ => by rw [hw k])

/-! ## The proof data -/

/-- What holds between points, before point `n`: at the start the scratch has some contents, later the accumulator's; the
    generator register is at some state. -/
def inv (c : Dev nD) (n : ℕ) : sProp 𝕄 :=
  if n = 0 then Pipeline.ΦA spec0 c
  else iprop(owns (c : Thread nD τ) scratch fullShare (acc m c n) ∗ ∃ r, prngReg c r)

/-- The proof data on core `c`: the arrays as the region finds them; after the body the inputs' buffers hold their blocks
    and the result's its block; between points the accumulator. -/
def dats (_ : Fin 1) (c : Dev nD) : Dat τ (Elt Ideal) Unit ℕ (UR sig nD τ) ℕ cfg0 c where
  A w := V m c (Pipeline.arrRef spec0 w)
  after w t := match w with
    | ⟨0, _⟩ => xleft m c t
    | ⟨1, _⟩ => xright m c t
    | ⟨2, _⟩ => wblk m c t fun _ => (0 : EReal)
    | ⟨3, _⟩ => bblk m c t fun _ => (0 : EReal)
    | ⟨4, _⟩ => oblk m c t
  Φ t := inv m c t.val
  q := Pipeline.shareOf spec0
  owed _ := 0

theorem A_eq (c : Dev nD) (w : Fin cfg0.W) : (dats m 0 c).A w = V m c (Pipeline.arrRef spec0 w) := by dsimp only [dats]

/-- What the body finds in the inputs' buffers, fetched at the point or not: their blocks. -/
theorem before_0 (c : Dev nD) (t : Fin cfg0.N) (d) : (dats m 0 c).before 0 t d = xleft m c t :=
  before0_0_of m (dats m 0 c) (A_eq m c 0) (fun _ => rfl) t d
theorem before_1 (c : Dev nD) (t : Fin cfg0.N) (d) : (dats m 0 c).before 1 t d = xright m c t :=
  before0_1_of m (dats m 0 c) (A_eq m c 1) (fun _ => rfl) t d
theorem before_2 (c : Dev nD) (t : Fin cfg0.N) (d) : (dats m 0 c).before 2 t d = wblk m c t d :=
  (dats m 0 c).before_in_eq_fetched 2 rfl (fun _ => rfl)
    (fun t t' h => funext fun a => congrArg (fun f : Fin 2 → ℕ => Pipeline.Clip.of (f a) (S2048x1024.size a) (S50257x1024.size a)) h)
    (fun t => win0_2.cut_fill _ _ _) t d
theorem before_3 (c : Dev nD) (t : Fin cfg0.N) (d) : (dats m 0 c).before 3 t d = bblk m c t d :=
  (dats m 0 c).before_in_eq_fetched 3 rfl (fun _ => rfl)
    (fun t t' h => funext fun a => congrArg (fun f : Fin 2 → ℕ => Pipeline.Clip.of (f a) (S1x2048.size a) (S1x50257.size a)) h)
    (fun t => win0_3.cut_fill _ _ _) t d

/-! ## The body at a point -/

/-- What the body hands back of the inputs' buffers: their blocks, as the proof data state them. -/
theorem leaves_0 (c : Dev nD) (t : Fin cfg0.N) : owns (c : Thread nD τ) (st0_0 t) fullShare (xleft m c t) ⊢ (dats m 0 c).leaves 0 t := .rfl
theorem leaves_1 (c : Dev nD) (t : Fin cfg0.N) : owns (c : Thread nD τ) (st0_1 t) fullShare (xright m c t) ⊢ (dats m 0 c).leaves 1 t := .rfl
theorem leaves_2 (c : Dev nD) (t : Fin cfg0.N) (d) : owns (c : Thread nD τ) (st0_2 t) fullShare (wblk m c t d) ⊢ (dats m 0 c).leaves 2 t := by
  iintro H
  iexists d
  have h : win0_2.cut (grid0.coords t) ((dats m 0 c).after 2 t) = iblk m c 2 t := win0_2.cut_fill _ _ _
  unfold wblk
  rw [h]
  iexact H
theorem leaves_3 (c : Dev nD) (t : Fin cfg0.N) (d) : owns (c : Thread nD τ) (st0_3 t) fullShare (bblk m c t d) ⊢ (dats m 0 c).leaves 3 t := by
  iintro H
  iexists d
  have h : win0_3.cut (grid0.coords t) ((dats m 0 c).after 3 t) = iblk m c 3 t := win0_3.cut_fill _ _ _
  unfold bblk
  rw [h]
  iexact H
/-- Before point 8 the body hands the result's buffer back as it found it, -/
theorem leaves_4_idle (c : Dev nD) (t : Fin cfg0.N) (h : t.val < 8) (d) :
    owns (c : Thread nD τ) (st0_4 t) fullShare ((dats m 0 c).before 4 t d) ⊢ (dats m 0 c).leaves 4 t := by
  rw [(dats m 0 c).leaves_idle 4 t ((idle_4 t).trans (decide_eq_true h)) ((flush_4 t).trans (decide_eq_false (by omega)))]
  iintro H
  iexists d
  iexact H
/-- and from there on holding the point's block of the result, whatever the weights' and the bias's buffers held where
    their blocks overhang. -/
theorem leaves_4_block (c : Dev nD) (t : Fin cfg0.N) (h : 8 ≤ t.val) (d2 d3) :
    owns (c : Thread nD τ) (st0_4 t) fullShare (k0_pay4 (F := Ideal) (wblk m c t d2) (acc m c 8) (bblk m c t d3)) ⊢ (dats m 0 c).leaves 4 t := by
  unfold Dat.leaves
  rw [(idle_4 t).trans (decide_eq_false (by omega))]
  iintro H
  iexists (k0_pay4 (F := Ideal) (wblk m c t d2) (acc m c 8) (bblk m c t d3))
  have h : win0_4.fill (grid0.coords t) (k0_pay4 (F := Ideal) (wblk m c t d2) (acc m c 8) (bblk m c t d3))
      (win0_4.cut (grid0.coords t) ((dats m 0 c).after 4 t)) = k0_pay4 (F := Ideal) (wblk m c t d2) (acc m c 8) (bblk m c t d3) :=
    win0_4.fill_congr_cut _ (cut_block m c t _ _ _ _ _)
  rw [h]
  iexact H

/-- What the body is handed at point `t`: the invariant, what is owed, and the five buffers as found. -/
def handed (c : Dev nD) (t : Fin cfg0.N) : sProp 𝕄 :=
  iprop(inv m c t.val ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d)))
/-- What it hands back. -/
def returned (c : Dev nD) (t : Fin cfg0.N) : sProp 𝕄 :=
  iprop(inv m c (t.val + 1) ∗ (dats m 0 c).owesAt () t.castSucc
    ∗ (dats m 0 c).leaves 0 t ∗ (dats m 0 c).leaves 1 t ∗ (dats m 0 c).leaves 2 t ∗ (dats m 0 c).leaves 3 t ∗ (dats m 0 c).leaves 4 t)

/-- The invariant after the start. -/
theorem inv_pos (c : Dev nD) (n : ℕ) (h : n ≠ 0) :
    inv m c n = iprop(owns (c : Thread nD τ) scratch fullShare (acc m c n) ∗ ∃ r, prngReg c r) := by
  unfold inv; rw [if_neg h]
/-- The invariant at the start. -/
theorem inv_zero (c : Dev nD) :
    inv m c 0 = iprop((∃ S, owns (c : Thread nD τ) scratch fullShare S) ∗ ∃ r, prngReg c r) := by
  unfold inv; rw [if_pos rfl]
  unfold Pipeline.ΦA
  rw [scopedRest0_eq]; simp only [owns_whole]; rfl
/-- The scratch at some contents is all the launch asks for. -/
theorem inv_out (c : Dev nD) (n : ℕ) : inv m c n ⊢ Pipeline.ΦA spec0 c := by
  rcases Nat.eq_zero_or_pos n with rfl | h
  · unfold inv; rw [if_pos rfl]
  · have e : (Pipeline.ΦA spec0 c : sProp 𝕄) = inv m c 0 := by unfold inv; rw [if_pos rfl]
    rw [e, inv_zero, inv_pos m c n (by omega)]
    iintro ⟨H, Hg⟩
    isplitl [H]
    · iexists _; iexact H
    iexact Hg

/-- The body at point 0. -/
theorem sound_first (c : Dev nD) (t : Fin cfg0.N) (ht : t.val = 0) :
    handed m c t ⊢ wp frame (wpE (defs₀ (F := Ideal)) Variants.none c none) Set.univ (bodyAt0 t) (fun _ => returned m c t) := by
  unfold handed returned bodyAt0
  rw [inv_pos m c (t.val + 1) (by omega), acc_chunk m c t (by omega), ht, inv_zero]
  simp only [before_0, before_1, before_2, before_3]
  iintro ⟨⟨⟨%S, HS⟩, Hg⟩, HO, ⟨%d0, H0⟩, ⟨%d1, H1⟩, ⟨%d2, H2⟩, ⟨%d3, H3⟩, ⟨%d4, H4⟩⟩
  iapply (run_first c (grid0.coords t) ((coord t).trans ht) (st0_0 t) _ (st0_1 t) _ (st0_2 t) _ (st0_3 t) _ (st0_4 t) _
    (xleft m c t) (xright m c t) S _)
  isplitl [H0]; · iexact H0
  isplitl [H1]; · iexact H1
  isplitl [HS]; · iexact HS
  iintro ⟨H0, H1, HS⟩
  isplitl [HS Hg]
  · isplitl [HS]; · iexact HS
    iexact Hg
  isplitl [HO]; · iexact HO
  isplitl [H0]; · iapply (leaves_0 m c t); iexact H0
  isplitl [H1]; · iapply (leaves_1 m c t); iexact H1
  isplitl [H2]; · iapply (leaves_2 m c t d2); iexact H2
  isplitl [H3]; · iapply (leaves_3 m c t d3); iexact H3
  iapply (leaves_4_idle m c t (by omega) d4); iexact H4

/-- The body at points 1 to 7. -/
theorem sound_chunk (c : Dev nD) (t : Fin cfg0.N) (h0 : t.val ≠ 0) (h8 : t.val < 8) :
    handed m c t ⊢ wp frame (wpE (defs₀ (F := Ideal)) Variants.none c none) Set.univ (bodyAt0 t) (fun _ => returned m c t) := by
  unfold handed returned bodyAt0
  rw [inv_pos m c (t.val + 1) (by omega), acc_chunk m c t h8, inv_pos m c t.val h0]
  simp only [before_0, before_1, before_2, before_3]
  iintro ⟨⟨HS, Hg⟩, HO, ⟨%d0, H0⟩, ⟨%d1, H1⟩, ⟨%d2, H2⟩, ⟨%d3, H3⟩, ⟨%d4, H4⟩⟩
  iapply (run_chunk c (grid0.coords t) (by rw [coord t]; omega) (by rw [coord t]; omega) (st0_0 t) _ (st0_1 t) _ (st0_2 t) _
    (st0_3 t) _ (st0_4 t) _ (xleft m c t) (xright m c t) (acc m c t.val) _)
  isplitl [H0]; · iexact H0
  isplitl [H1]; · iexact H1
  isplitl [HS]; · iexact HS
  iintro ⟨H0, H1, HS⟩
  isplitl [HS Hg]
  · isplitl [HS]; · iexact HS
    iexact Hg
  isplitl [HO]; · iexact HO
  isplitl [H0]; · iapply (leaves_0 m c t); iexact H0
  isplitl [H1]; · iapply (leaves_1 m c t); iexact H1
  isplitl [H2]; · iapply (leaves_2 m c t d2); iexact H2
  isplitl [H3]; · iapply (leaves_3 m c t d3); iexact H3
  iapply (leaves_4_idle m c t h8 d4); iexact H4

/-- The body at points 8 to 32. -/
theorem sound_block (c : Dev nD) (t : Fin cfg0.N) (h8 : 8 ≤ t.val) :
    handed m c t ⊢ wp frame (wpE (defs₀ (F := Ideal)) Variants.none c none) Set.univ (bodyAt0 t) (fun _ => returned m c t) := by
  unfold handed returned bodyAt0
  rw [inv_pos m c (t.val + 1) (by omega), inv_pos m c t.val (by omega), acc_of_le m c t.val h8, acc_of_le m c (t.val + 1) (by omega)]
  simp only [before_0, before_1, before_2, before_3]
  iintro ⟨⟨HS, Hg⟩, HO, ⟨%d0, H0⟩, ⟨%d1, H1⟩, ⟨%d2, H2⟩, ⟨%d3, H3⟩, ⟨%d4, H4⟩⟩
  iapply (run_block c (grid0.coords t) (by rw [coord t]; omega) (st0_0 t) _ (st0_1 t) _ (st0_2 t) _
    (st0_3 t) _ (st0_4 t) _ (wblk m c t d2) (bblk m c t d3) ((dats m 0 c).before 4 t d4) (acc m c 8) _)
  isplitl [H2]; · iexact H2
  isplitl [H3]; · iexact H3
  isplitl [H4]; · iexact H4
  isplitl [HS]; · iexact HS
  iintro ⟨H2, H3, H4, HS⟩
  isplitl [HS Hg]
  · isplitl [HS]; · iexact HS
    iexact Hg
  isplitl [HO]; · iexact HO
  isplitl [H0]; · iapply (leaves_0 m c t); iexact H0
  isplitl [H1]; · iapply (leaves_1 m c t); iexact H1
  isplitl [H2]; · iapply (leaves_2 m c t d2); iexact H2
  isplitl [H3]; · iapply (leaves_3 m c t d3); iexact H3
  iapply (leaves_4_block m c t h8 d2 d3); iexact H4

/-- The body at any point. -/
theorem sound (c : Dev nD) (t : Fin cfg0.N) :
    handed m c t ⊢ wp frame (wpE (defs₀ (F := Ideal)) Variants.none c none) Set.univ (bodyAt0 t) (fun _ => returned m c t) := by
  by_cases h0 : t.val = 0
  · exact sound_first m c t h0
  by_cases h8 : t.val < 8
  · exact sound_chunk m c t h0 h8
  · exact sound_block m c t (by omega)

/-- The pipeline calls the kernel body at point `t` on that point's buffers. -/
theorem defs₀_row (t : Fin cfg0.N) : defs₀ (F := Ideal) .tc cfg0.body (cfg0.bodyArgs t (cfg0.slots t)) = bodyAt0 t := by
  unfold defs₀; rw [Defs.onTc_tc]

/-- The invariant at a point's start. -/
theorem inv_castSucc (c : Dev nD) (t : Fin cfg0.N) : (dats m 0 c).Φ t.castSucc = inv m c t.val := by
  dsimp only [dats]; exact Dat.Φ_castSucc (fun n _ => inv m c n) t

/-- The library's obligation of the body. -/
theorem body_obligation (c : Dev nD) :
    BodyObligationLoose (dats m 0 c) (defs₀ (F := Ideal)) Variants.none () Set.univ := fun t => by
  rw [bigSep_W0, bigSep_W0, defs₀_row, inv_castSucc]
  exact triple_restated (sound m c t) rfl .rfl fun _ => .rfl

set_option backward.isDefEq.respectTransparency.types false in
/-- From any memory with zero counters every run of the kernel terminates, every array at what the proof data compute for
    it, the other arrays as the region found them, and every semaphore counter at zero. -/
theorem run_main :
    θ_run defs (onTc (τ := τ) (main (F := Ideal))) (s₀ m ρ)
      (fun r => Pipeline.FramePost cfgs (dats m) 0 (V m) r ∧ r.2.sem = fun _ => 0) :=
  Pipeline.θ_run_frame_track_shared (Q' := _) cfgs (dats m) (0 : Fin 1) launch₀0 defs₀ Variants.none m ρ main
    (hbody := body_obligation m) (hq := fun _ _ _ => rfl) (howed := fun _ _ => rfl)
    (V := V m) (hmain := hmain m Variants.none) (hA := A_eq m)
    (hin := fun c => by dsimp only [dats]; unfold inv; rw [if_pos (by rfl)]) (hout := fun c => inv_out m c cfg0.N)
    (hQ' := fun _ h => h)

end Cert.KernelIdeal.Run

end
-- ==== Proof.Value.lean ====
/-
  The value of the idealised kernel: the accumulator after the first eight points is the sum of the input over the whole
  sequence, and the result array is its product with the weights plus 2048 times the bias.
-/
module

public import proofs.«01_k».proof.Proof.Run
public import Idealize.ShloMosaic.Lib.Claim

@[expose] public section

set_option maxRecDepth 16384

noncomputable section

namespace Cert.KernelIdeal.Run

open Cert.KernelIdeal Cert.KernelIdeal.Gen
open Idealize.ShloMosaic Idealize.ShloMosaic.TcCoe Idealize.ShloMosaic.Tactic
open Idealize.ShloMosaic.Pipeline (Dat Cfg Window)
open Idealize.SL Idealize.SL.RA Idealize.SL.BI Idealize.SL.Sem

variable (m : (ℓ : Loc nD τ sig) → Buf (Elt Ideal) ℓ) (ρ : Dev nD → PrngReg)

/-- The three arguments. -/
abbrev argX (c : Dev nD) : S4x2048x1024.Idx → Ideal .f32 := m ((c.tc : Thread nD τ).loc main_arg0)
abbrev argW (c : Dev nD) : S50257x1024.Idx → Ideal .f32 := m ((c.tc : Thread nD τ).loc main_arg1)
abbrev argB (c : Dev nD) : S50257.Idx → Ideal .f32 := m ((c.tc : Thread nD τ).loc main_arg2)

/-- The index maps in the first eight points: both halves of the input move along the sequence. -/
theorem idx_chunk : ∀ t : Fin cfg0.N, t.val < 8 →
    win0_0.index t 0 = 0 ∧ win0_0.index t 1 = t.val ∧ win0_0.index t 2 = 0
    ∧ win0_1.index t 0 = 0 ∧ win0_1.index t 1 = t.val ∧ win0_1.index t 2 = 1 :=
  (by decide +kernel : ∀ t : Fin grid0.N, _)

/-- The index maps from point 8 on: weights, bias and result move along the vocabulary. -/
theorem idx_block : ∀ t : Fin cfg0.N, 8 ≤ t.val →
    win0_2.index t 0 = t.val - 8 ∧ win0_2.index t 1 = 0
    ∧ win0_3.index t 0 = 0 ∧ win0_3.index t 1 = t.val - 8
    ∧ win0_4.index t 0 = 0 ∧ win0_4.index t 1 = t.val - 8 :=
  (by decide +kernel : ∀ t : Fin grid0.N, _)

/-- The left half of a chunk in the input. -/
theorem xleft_apply (c : Dev nD) (t : Fin cfg0.N) (h : t.val < 8) (b : Fin 4) (r : Fin 256) (d : Fin 512) :
    xleft m c t (ix3 b r d) = argX m c (ix3 b ⟨256 * t.val + r.val, by omega⟩ ⟨d.val, by omega⟩) := by
  have hi := idx_chunk t h
  unfold xleft
  blk_ext [iblk, V, hi]

/-- The right half of a chunk in the input. -/
theorem xright_apply (c : Dev nD) (t : Fin cfg0.N) (h : t.val < 8) (b : Fin 4) (r : Fin 256) (d : Fin 512) :
    xright m c t (ix3 b r d) = argX m c (ix3 b ⟨256 * t.val + r.val, by omega⟩ ⟨d.val + 512, by omega⟩) := by
  have hi := idx_chunk t h
  unfold xright
  blk_ext [iblk, V, hi]

/-- A chunk added to the accumulator, in the left half of the columns: the sum of the chunk's rows. -/
theorem addChunk_left (S : S4x1024.Idx → Ideal .f32) (X1 X2 : S4x256x512.Idx → Ideal .f32) (b : Fin 4) (d : Fin 1024) (h : d.val < 512) :
    (addChunk S X1 X2 (ix2 b d) : EReal) = S (ix2 b d) + ∑ r : Fin 256, (X1 (ix3 b r ⟨d.val, h⟩) : EReal) := by
  unfold addChunk VecWindow.put
  rw [dif_neg (fun hf => by have := (hf 1).1; change 512 ≤ d.val at this; omega),
    dif_pos (fun a => by fin_cases a; exacts [⟨Nat.zero_le _, b.isLt⟩, ⟨Nat.zero_le _, by change d.val < 0 + 512; omega⟩])]
  refine (left_apply _ _ _).trans (congrArg₂ (· + ·) (congrArg S ?_) (Finset.sum_congr rfl fun r _ => congrArg X1 ?_))
  · funext a; fin_cases a <;> apply Fin.ext <;> simp [Rect.unitLocal, Rect.unit, Rect.emb, ix2]
  · funext a; fin_cases a <;> apply Fin.ext <;> simp [Rect.unitLocal, ix2, ix3]

/-- A chunk added to the accumulator, in the right half of the columns. -/
theorem addChunk_right (S : S4x1024.Idx → Ideal .f32) (X1 X2 : S4x256x512.Idx → Ideal .f32) (b : Fin 4) (d : Fin 1024) (h : 512 ≤ d.val) :
    (addChunk S X1 X2 (ix2 b d) : EReal) = S (ix2 b d) + ∑ r : Fin 256, (X2 (ix3 b r ⟨d.val - 512, by omega⟩) : EReal) := by
  unfold addChunk VecWindow.put
  rw [dif_pos (fun a => by fin_cases a; exacts [⟨Nat.zero_le _, b.isLt⟩, ⟨h, by change d.val < 512 + 512; omega⟩])]
  refine (right_apply _ _ _).trans (congrArg₂ (· + ·) (congrArg S ?_) (Finset.sum_congr rfl fun r _ => congrArg X2 ?_))
  · funext a; fin_cases a <;> apply Fin.ext <;> simp [Rect.unitLocal, Rect.unit, Rect.emb, ix2]; omega
  · funext a; fin_cases a <;> apply Fin.ext <;> simp [Rect.unitLocal, ix2, ix3]

/-- The input at row `s` of the sequence, zero where the sequence has no such row. -/
def rowAt (c : Dev nD) (b : Fin 4) (d : Fin 1024) (s : ℕ) : EReal :=
  if h : s < 2048 then argX m c (ix3 b ⟨s, h⟩ d) else 0

/-- One chunk adds the rows it holds. -/
theorem addChunk_rows (c : Dev nD) (t : Fin cfg0.N) (h : t.val < 8) (S : S4x1024.Idx → Ideal .f32) (b : Fin 4) (d : Fin 1024) :
    (addChunk S (xleft m c t) (xright m c t) (ix2 b d) : EReal)
      = S (ix2 b d) + ∑ r ∈ Finset.range 256, rowAt m c b d (256 * t.val + r) := by
  rw [Finset.sum_range]
  by_cases hd : d.val < 512
  · rw [addChunk_left _ _ _ b d hd]
    refine congrArg (S (ix2 b d) + ·) (Finset.sum_congr rfl fun r _ => ?_)
    rw [xleft_apply m c t h, rowAt, dif_pos (by omega)]
  · rw [addChunk_right _ _ _ b d (by omega)]
    refine congrArg (S (ix2 b d) + ·) (Finset.sum_congr rfl fun r _ => ?_)
    rw [xright_apply m c t h, rowAt, dif_pos (by omega)]
    exact congrArg (argX m c) (congrArg (ix3 b _) (Fin.ext (by dsimp only; omega)))

/-- The accumulator after the first `n` chunks is the sum of the rows they hold. -/
theorem acc_rows (c : Dev nD) (b : Fin 4) (d : Fin 1024) (n : ℕ) (hn : n ≤ 8) :
    (acc m c n (ix2 b d) : EReal) = ∑ s ∈ Finset.range (256 * n), rowAt m c b d s := by
  induction n with
  | zero => exact cleared_apply _
  | succ n ih =>
    have hN : cfg0.N = 33 := N_0
    rw [acc_chunk m c ⟨n, by omega⟩ hn, addChunk_rows m c ⟨n, by omega⟩ hn, ih (by omega), Nat.mul_succ, Finset.sum_range_add]

/-- The accumulator after the last chunk is the sum of the input over the whole sequence. -/
theorem acc_all (c : Dev nD) (b : Fin 4) (d : Fin 1024) :
    (acc m c 8 (ix2 b d) : EReal) = ∑ s : Fin 2048, (argX m c (ix3 b s d) : EReal) := by
  rw [acc_rows m c b d 8 le_rfl, Finset.sum_range]
  exact Finset.sum_congr rfl fun s _ => dif_pos s.isLt

/-- The result array: at row `b` and column `v`, the inner product of row `v` of the weights with the input summed over the
    sequence, plus 2048 times the bias at `v`. -/
def result (c : Dev nD) : S4x50257.Idx → Ideal .f32 := fun i =>
  ((∑ k : Fin 1024, (argW m c (ix2 (i 1) k) : EReal) * ∑ s : Fin 2048, (argX m c (ix3 (i 0) s k) : EReal))
    + 2048 * (argB m c (ix1 (i 1)) : EReal) : EReal)

/-- The weights' buffer at a point from 8 on, in the rows its block has: the array's rows from `2048 (t - 8)` on. -/
theorem wblk_apply (c : Dev nD) (t : Fin cfg0.N) (h : 8 ≤ t.val) (d) (v : Fin 2048) (k : Fin 1024)
    (hv : v.val < win0_4.xsize (grid0.coords t) 1) (V : Fin 50257) (hV : V.val = 2048 * (t.val - 8) + v.val) :
    wblk m c t d (ix2 v k) = argW m c (ix2 V k) := by
  obtain ⟨h20, h21, -⟩ := moved_sizes t
  have hm : win0_2.moved (grid0.coords t) (ix2 v k) = true :=
    (win0_2.moved_iff _ _).mpr fun a => by
      fin_cases a
      · exact lt_of_lt_of_eq hv h20.symm
      · exact lt_of_lt_of_eq k.isLt h21.symm
  have hi := idx_block t h
  unfold wblk Window.fill
  rw [dif_pos hm]
  blk_simp [iblk]
  rw [V_main_arg1]
  refine congrArg (argW m c) (funext fun a => Fin.ext ?_)
  fin_cases a
  · blk_simp [hi]
    change (t.val - 8) * 2048 + v.val = V.val
    omega
  · blk_simp [hi]
    rfl

/-- The bias's buffer at a point from 8 on, in the columns its block has. -/
theorem bblk_apply (c : Dev nD) (t : Fin cfg0.N) (h : 8 ≤ t.val) (d) (v : Fin 2048)
    (hv : v.val < win0_4.xsize (grid0.coords t) 1) (V : Fin 50257) (hV : V.val = 2048 * (t.val - 8) + v.val) :
    bblk m c t d (ix2 0 v) = argB m c (ix1 V) := by
  obtain ⟨-, -, h30, h31⟩ := moved_sizes t
  have hm : win0_3.moved (grid0.coords t) (ix2 0 v) = true :=
    (win0_3.moved_iff _ _).mpr fun a => by
      fin_cases a
      · exact lt_of_lt_of_eq Nat.one_pos h30.symm
      · exact lt_of_lt_of_eq hv h31.symm
  have hi := idx_block t h
  unfold bblk Window.fill
  rw [dif_pos hm]
  have hE : ((win0_3.blk t).view.emb (fun a => ⟨(ix2 0 v a).val, (win0_3.moved_iff _ _).mp hm a⟩) 1 : ℕ) = V.val := by
    blk_simp [hi]
    change (t.val - 8) * 2048 + v.val = V.val
    omega
  blk_simp [iblk]
  entry_read
  pointwise
  exact congrArg (argB m c) (congrArg ix1 (Fin.ext hE))

/-- The blocks the run writes back make up the result array. -/
theorem final (c : Dev nD) : (dats m 0 c).arrAt 4 (cfgs 0).N = result m c := by
  refine (dats m 0 c).arrAt_eq_of_covers 4 _ (by decide +kernel) fun t hf y => ?_
  have h8 : 8 ≤ t.val := of_decide_eq_true ((flush_4 t).symm.trans hf)
  have hi := idx_block t h8
  blk_simp
  have hy : (y 1).val < win0_4.xsize (grid0.coords t) 1 := (y 1).isLt
  have hV : ((win0_4.blk t).view.emb y 1 : ℕ) = 2048 * (t.val - 8) + (y 1).val := by
    blk_simp [hi]
    omega
  have hB : (win0_4.blk t).view.emb y 0 = (win0_4.xinj (grid0.coords t) y 0) := Fin.ext (by
    blk_simp [hi])
  refine (block_apply _ _ _ _).trans ?_
  unfold result
  refine congrArg₂ (· + ·) (Finset.sum_congr rfl fun k _ => congrArg₂ (· * ·) ?_ ?_) (congrArg (2048 * ·) ?_)
  · exact wblk_apply m c t h8 _ _ k hy _ hV
  · rw [hB]; exact acc_all m c _ k
  · exact bblk_apply m c t h8 _ _ hy _ hV

/-- From any memory with zero counters every run of the idealised kernel terminates with the result array as stated, the
    three arguments as they were at launch and every semaphore counter at zero. -/
theorem run :
    θ_run defs (onTc (τ := τ) (main (F := Ideal))) ⟨m, fun _ => 0, ρ⟩ (fun r => (∀ c : Dev nD,
      r.2.mem ((c.tc : Thread nD τ).loc main_v1) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) ∧ r.2.sem = fun _ => 0) :=
  (θ_run defs _ _).mono (fun _ h => ⟨fun c =>
    ⟨((h.1 c).1 4).trans (final m c),
      ((h.1 c).1 1).trans (((dats m 0 c).arrAt_in 1 rfl _).trans ((A_eq m c 1).trans (V_main_arg0 m c))),
      ((h.1 c).1 2).trans (((dats m 0 c).arrAt_in 2 rfl _).trans ((A_eq m c 2).trans (V_main_arg1 m c))),
      ((h.1 c).2 main_arg2 (Pipeline.mem_restRefs_of main_arg2 (by decide) (by decide))).trans (V_main_arg2 m c)⟩, h.2⟩)
    (run_main m ρ)

end Cert.KernelIdeal.Run

end
-- ==== Proof.Reference.lean ====
/-
  What the reference computes, at an index.
-/
module

public import proofs.«01_k».proof.Proof.Gen.ReferenceIdeal.Run
public import proofs.«01_k».proof.Proof.Gen.ReferenceIdeal.Read
public import Idealize.ShloMosaic.Lib.Pointwise

@[expose] public section

noncomputable section

namespace Cert.ReferenceIdeal.Output

open Cert.ReferenceIdeal Cert.ReferenceIdeal.Gen Cert.ReferenceIdeal.Read
open Idealize.ShloMosaic Idealize.ShloMosaic.TcCoe Idealize.SL.Sem

/-- The reference's result at row `b` and column `v`: over the sequence, the sum of the inner product of the input's row with
    row `v` of the weights, the bias at `v` added to each. -/
theorem output_apply (x : S4x2048x1024.Idx → Ideal .f32) (w : S50257x1024.Idx → Ideal .f32) (b : S50257.Idx → Ideal .f32) (i : S4x50257.Idx) :
    (val_main_v4 (F := Ideal) x w b i : EReal)
      = ∑ s : Fin 2048, (∑ k : Fin 1024, (x (ix3 (i 0) s k) : EReal) * w (ix2 (i 1) k) + (b (ix1 (i 1)) : EReal)) := by
  pointwise [val_main_v4, val_main_v3, val_main_v2, val_main_v1, val_main_v0, val_main_cst]

/-- The reference runs to its end with its arguments as they were and, having no semaphore, every counter at zero. -/
theorem safe (m : (ℓ : Loc nD τ sig) → Buf (Elt Ideal) ℓ) (ρ : Dev nD → PrngReg) :
    θ_run defs (onTc (τ := τ) (main (F := Ideal))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) ∧ r.2.sem = fun _ => 0) :=
  (θ_run defs _ _).mono (fun r h => ⟨fun c => (h c).2, sem_eq_zero_of_no_sems (by decide) r.2⟩)
    (Cert.ReferenceIdeal.Value.run (F := Ideal) m ρ)

end Cert.ReferenceIdeal.Output

end
-- ==== Proof.Finite.lean ====
/-
  What the precondition says over the extended reals: every element of the input and of the weights is a real number.
-/
module

public import proofs.«01_k».proof.Proof.Gen.Pre_finite_products
public import Idealize.ShloMosaic.Lib.Pointwise
public import Idealize.ShloMosaic.Lib.ReduceAll

@[expose] public section

noncomputable section

namespace Cert.Pre_finite_products.Finite

open Cert.Pre_finite_products Cert.Pre_finite_products.Gen
open Idealize.ShloMosaic

/-- The bound the precondition compares with is plus infinity. -/
theorem bound_word : Ideal.ofBits .f32 0x7F800000#32 = (⊤ : EReal) := by simp [Ideal.ofBits, Ideal.ieee]

/-- An extended real whose absolute value lies below plus infinity is a real number. -/
theorem real_of_abs_lt (x : EReal) (h : max x (-x) < ⊤) : ∃ r : ℝ, x = r := by
  induction x with
  | bot => simp at h
  | coe r => exact ⟨r, rfl⟩
  | top => simp at h

/-- The precondition's comparison bit at an element is 1 only where the element is a real number. -/
theorem real_of_bit (x : Ideal .f32) (h : FloatOps.cmpf .olt (FloatOps.hostAbsf x) (FloatOps.ofBits .f32 0x7F800000#32 : Ideal .f32) = 1#1) :
    ∃ r : ℝ, (x : EReal) = r := by
  have e : (max x (-x) : EReal) < Ideal.ofBits .f32 0x7F800000#32 := (Ideal.cmp_olt_eq_one _ _).mp h
  rw [bound_word] at e
  exact real_of_abs_lt x e

/-- Two bits whose conjunction is 1 are both 1. -/
theorem both_one (a b : BitVec 1) (h : a &&& b = 1#1) : a = 1#1 ∧ b = 1#1 := by
  revert a b; decide

/-- Where the precondition holds every element of the input and every element of the weights is a real number. -/
theorem reals (x : S4x2048x1024.Idx → Ideal .f32) (w : S50257x1024.Idx → Ideal .f32) (b : S50257.Idx → Ideal .f32)
    (h : fn (F := Ideal) x w b = fun _ => 1#1) : (∀ i, ∃ r : ℝ, (x i : EReal) = r) ∧ ∀ i, ∃ r : ℝ, (w i : EReal) = r := by
  have h0 := congrFun h ix0
  unfold fn at h0
  obtain ⟨hx, hw⟩ := both_one _ _ h0
  haveI : Subsingleton S_.Idx := ⟨fun a b => funext fun k => k.elim0⟩
  refine ⟨fun i => ?_, fun i => ?_⟩
  · exact real_of_bit _ (Host.reduce_andi_all _ _ _ _ _ hx i)
  · exact real_of_bit _ (Host.reduce_andi_all _ _ _ _ _ hw i)

end Cert.Pre_finite_products.Finite

end
-- ==== Proof.Algebra.lean ====
/-
  The equation between what the kernel and the reference compute, over the extended reals.
-/
module

public import Mathlib.Data.EReal.Operations
public import Mathlib.Algebra.BigOperators.Ring.Finset
public import Mathlib.Algebra.BigOperators.Group.Finset.Sigma

@[expose] public section

namespace Cert.SumOfProducts

/-- A sum of real numbers is the same sum over the extended reals. -/
theorem coe_sum {ι : Type} (s : Finset ι) (f : ι → ℝ) : ((∑ i ∈ s, f i : ℝ) : EReal) = ∑ i ∈ s, (f i : EReal) :=
  map_sum (⟨⟨Real.toEReal, rfl⟩, EReal.coe_add⟩ : ℝ →+ EReal) f s

/-- Of real numbers, the products summed over both axes are the products with the sums over one of them. -/
theorem sum_products {n k : ℕ} (x : Fin n → Fin k → EReal) (w : Fin k → EReal)
    (hx : ∀ s j, ∃ r : ℝ, x s j = r) (hw : ∀ j, ∃ r : ℝ, w j = r) :
    ∑ s, ∑ j, x s j * w j = ∑ j, w j * ∑ s, x s j := by
  choose x' hx using hx
  choose w' hw using hw
  simp only [hx, hw, ← coe_sum, ← EReal.coe_mul]
  rw [Finset.sum_comm]
  refine congrArg Real.toEReal (Finset.sum_congr rfl fun j _ => ?_)
  rw [Finset.mul_sum]
  exact Finset.sum_congr rfl fun s _ => mul_comm _ _

/-- With a bias added to every product sum: it comes out once for each of the 2048 rows, whatever extended real it is. -/
theorem sum_affine {k : ℕ} (x : Fin 2048 → Fin k → EReal) (w : Fin k → EReal) (β : EReal)
    (hx : ∀ s j, ∃ r : ℝ, x s j = r) (hw : ∀ j, ∃ r : ℝ, w j = r) :
    ∑ s, (∑ j, x s j * w j + β) = ∑ j, w j * ∑ s, x s j + 2048 * β := by
  rw [Finset.sum_add_distrib, sum_products x w hx hw, Finset.sum_const, Finset.card_univ, Fintype.card_fin, EReal.nsmul_eq_mul]
  rfl

end Cert.SumOfProducts
-- ==== Proof.Equation.lean ====
/-
  The result array of the kernel is the reference's, where the precondition holds.
-/
module

public import proofs.«01_k».proof.Proof.Value
public import proofs.«01_k».proof.Proof.Reference
public import proofs.«01_k».proof.Proof.Finite
public import proofs.«01_k».proof.Proof.Algebra

@[expose] public section

noncomputable section

namespace Cert.Equation

open Idealize.ShloMosaic Idealize.ShloMosaic.TcCoe

/-- Where the precondition holds of the kernel's arguments, the reference's result of the same arguments is the kernel's
    result array. -/
theorem output_eq_result (m : (ℓ : Loc KernelIdeal.nD KernelIdeal.τ KernelIdeal.sig) → Buf (Elt Ideal) ℓ) (c : Dev KernelIdeal.nD)
    (h : letI := Pre_finite_products.Gen.facts
      Pre_finite_products.fn (F := Ideal) (KernelIdeal.Run.argX m c) (KernelIdeal.Run.argW m c) (KernelIdeal.Run.argB m c) = fun _ => 1#1) :
    ReferenceIdeal.Read.val_main_v4 (F := Ideal) (KernelIdeal.Run.argX m c) (KernelIdeal.Run.argW m c) (KernelIdeal.Run.argB m c)
      = KernelIdeal.Run.result m c := by
  obtain ⟨hx, hw⟩ := Pre_finite_products.Finite.reals _ _ _ h
  funext i
  refine (ReferenceIdeal.Output.output_apply _ _ _ i).trans ?_
  exact SumOfProducts.sum_affine (fun s k => KernelIdeal.Run.argX m c (ix3 (i 0) s k)) (fun k => KernelIdeal.Run.argW m c (ix2 (i 1) k))
    (KernelIdeal.Run.argB m c (ix1 (i 1))) (fun _ _ => hx _) (fun _ => hw _)

end Cert.Equation

end
-- ==== Proof.lean ====
/-
  The claims, assembled from the run of the kernel (KernelFrame), the run and the result of the idealised kernel (Body,
  Payload, Run, Value), the reference's run and result (Reference), the precondition read over the extended reals (Finite)
  and the equation between the two results (Algebra, Equation).
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Pre_finite_products
public import proofs.«01_k».proof.Proof.KernelFrame
public import proofs.«01_k».proof.Proof.Value
public import proofs.«01_k».proof.Proof.Reference
public import proofs.«01_k».proof.Proof.Equation
public import Idealize.ShloMosaic.Adequacy
public import Idealize.ShloMosaic.Init

@[expose] public section

noncomputable section

namespace Cert.Proof

open Idealize.ShloMosaic Idealize.SL.Sem Cert.Kernel

/-- The idealised kernel runs to its end with its arguments as they were and every semaphore counter at zero. -/
theorem kernelIdeal_safe (m : (ℓ : Loc Cert.KernelIdeal.nD Cert.KernelIdeal.τ Cert.KernelIdeal.sig) → Buf (Elt Ideal) ℓ)
    (g : Dev Cert.KernelIdeal.nD → PrngReg) :
    θ_run (Cert.KernelIdeal.defs (F := Ideal)) (onTc (τ := Cert.KernelIdeal.τ) (Cert.KernelIdeal.main (F := Ideal))) ⟨m, fun _ => 0, g⟩
      (fun r => (∀ c : Dev Cert.KernelIdeal.nD,
        r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
        ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
        ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0) :=
  (θ_run Cert.KernelIdeal.defs _ _).mono (fun _ h => ⟨fun c => (h.1 c).2, h.2⟩) (Cert.KernelIdeal.Run.run m g)

/-- Every claim of this certificate: the kernel, the idealised kernel and the reference run to their ends with their arguments
    unchanged, the idealised kernel is the kernel's own text, and where the input and the weights are finite the idealised kernel
    and the reference compute equal results. -/
theorem claim : Cert.Claim := ⟨Cert.Kernel.Gen.facts, Cert.KernelIdeal.Gen.facts, Cert.ReferenceIdeal.Gen.facts, Cert.Pre_finite_products.Gen.facts, by
  refine ⟨fun m g _ => Cert.Kernel.Safe.safe m g, fun m g _ => kernelIdeal_safe m g, fun m g _ => kernelIdeal_safe m g,
    fun m g _ => Cert.ReferenceIdeal.Output.safe m g, fun m g _ => Cert.ReferenceIdeal.Output.safe m g, trivial, ?_⟩
  intro m g m' g' hpre hag
  refine ⟨fun c => Cert.KernelIdeal.Run.result m c,
    (θ_run Cert.KernelIdeal.defs _ _).mono (fun _ h c => h.1 c) (Cert.KernelIdeal.Run.run m g),
    (θ_run Cert.ReferenceIdeal.defs _ _).mono (fun _ h c => ⟨(h c).1.trans ?_, (h c).2⟩) (Cert.ReferenceIdeal.Value.run m' g')⟩
  obtain ⟨h0, h1, h2⟩ := hag c
  rw [Cert.ReferenceIdeal.Read.val_main_v4_eq, h0, h1, h2]
  exact Cert.Equation.output_eq_result m c (hpre c)⟩

end Cert.Proof

end
